-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S73728x1024 : Shape := ⟨2, ![73728, 1024]⟩
abbrev S1024x1024 : Shape := ⟨2, ![1024, 1024]⟩
abbrev S1024x512 : Shape := ⟨2, ![1024, 512]⟩
abbrev S1024x8 : Shape := ⟨2, ![1024, 8]⟩
abbrev S2048x1024 : Shape := ⟨2, ![2048, 1024]⟩
abbrev S128x64 : Shape := ⟨2, ![128, 64]⟩
abbrev S256x128 : Shape := ⟨2, ![256, 128]⟩
abbrev S256 : Shape := ⟨1, ![256]⟩
abbrev S256x1 : Shape := ⟨2, ![256, 1]⟩
abbrev S256x64 : Shape := ⟨2, ![256, 64]⟩
abbrev S256x8 : Shape := ⟨2, ![256, 8]⟩
abbrev S256x512 : Shape := ⟨2, ![256, 512]⟩

abbrev nBuf : Space → Nat
  | .hbm => 6
  | .vmem => 9
  | .smem => 0
  | _ => 0

abbrev bufTy : (tb : Table) → Fin (tcTables nBuf tb) → BufTy
  | .hbm, ⟨0, _⟩ => ⟨S73728x1024, .bf16⟩
  | .hbm, ⟨1, _⟩ => ⟨S73728x1024, .bf16⟩
  | .hbm, ⟨2, _⟩ => ⟨S1024x1024, .f32⟩
  | .hbm, ⟨3, _⟩ => ⟨S1024x512, .i8⟩
  | .hbm, ⟨4, _⟩ => ⟨S1024x8, .f32⟩
  | .hbm, ⟨5, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x512, .i8⟩
  | .local _ .vmem, ⟨6, _⟩ => ⟨S1024x8, .f32⟩
  | .local _ .vmem, ⟨7, _⟩ => ⟨S1024x1024, .f32⟩
  | .local _ .vmem, ⟨8, _⟩ => ⟨S1024x1024, .f32⟩
  | _, _ => ⟨S73728x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![36], ![false]⟩

def k0_cond2 (i : grid0.Coords) : BitVec 1 :=
  let arg0 : BitVec 32 := BitVec.ofNat 32 (i 0).val
  let c35_i32 : BitVec 32 := 35#32
  let v11 : BitVec 1 := Scalar.cmpi .eq arg0 c35_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S73728x1024 : Shape := ⟨2, ![73728, 1024]⟩
abbrev S1024x1024 : Shape := ⟨2, ![1024, 1024]⟩
abbrev S1024x512 : Shape := ⟨2, ![1024, 512]⟩
abbrev S1024x8 : Shape := ⟨2, ![1024, 8]⟩
abbrev S1024x8x128 : Shape := ⟨3, ![1024, 8, 128]⟩
abbrev S1024x8x1 : Shape := ⟨3, ![1024, 8, 1]⟩
abbrev S1024x512x2 : Shape := ⟨3, ![1024, 512, 2]⟩
abbrev S1024x512x1 : Shape := ⟨3, ![1024, 512, 1]⟩

abbrev nBuf : Space → Nat
  | .hbm => 7
  | .vmem => 5
  | .smem => 0
  | _ => 0

abbrev bufTy : (tb : Table) → Fin (tcTables nBuf tb) → BufTy
  | .hbm, ⟨0, _⟩ => ⟨S73728x1024, .bf16⟩
  | .hbm, ⟨1, _⟩ => ⟨S73728x1024, .bf16⟩
  | .hbm, ⟨2, _⟩ => ⟨S1024x1024, .f32⟩
  | .hbm, ⟨3, _⟩ => ⟨S1024x1024, .f32⟩
  | .hbm, ⟨4, _⟩ => ⟨S1024x512, .i8⟩
  | .hbm, ⟨5, _⟩ => ⟨S1024x8, .f32⟩
  | .hbm, ⟨6, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .i8⟩
  | .local _ .vmem, ⟨3, _⟩ => ⟨S1024x8, .f32⟩
  | .local _ .vmem, ⟨4, _⟩ => ⟨S1024x1024, .f32⟩
  | _, _ => ⟨S73728x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Quant.lean ====
/- THE SCALAR MATHEMATICS OF THE COMPRESSION, over the extended reals and over no program: the scale of a block
   of 128 numbers, the four-bit code of a number at a scale, and the two ways of packing a pair of codes into a
   byte — by masks and shifts of the integers, and by arithmetic on the floats — which agree. -/
module

public import Idealize.ShloMosaic.Lib.Pointwise
public import Idealize.ShloMosaic.Lib.IdealHost

@[expose] public section

noncomputable section

namespace Cert.Quant

open Idealize.ShloMosaic

/-- The largest absolute value of a block of 128 numbers. -/
def amax (f : Fin 128 → EReal) : EReal :=
  Finset.univ.fold max (Ideal.ofBits .f32 0xFF800000#32) (fun k => max (f k) (-f k))

/-- A block's scale: 1 for an all-zero block, else a seventh of its largest absolute value. -/
def scale (f : Fin 128 → EReal) : EReal :=
  if amax f = 0 then 1 else Ideal.div (amax f) (Ideal.ofBits .f32 0x40E00000#32)

/-- The code of `x` at the scale `s`, as a number: `x / s` rounded to an integer, ties to even, and clipped to -7 … 7. -/
def code (x s : EReal) : EReal :=
  min (((7#32).toInt : ℝ) : EReal) (max (((4294967289#32).toInt : ℝ) : EReal)
    (Ideal.liftRound Ideal.roundHalfEven (Ideal.div x s)))

/-- The code moved to 0 … 15: sixteen is added to a negative one. -/
def nib (q : EReal) : EReal := if q < 0 then q + Ideal.ofBits .f32 0x41800000#32 else q

/-- A pair of codes as a byte, by integer operations: the four low bits of each, the second above the first. -/
def word (c0 c1 : EReal) : BitVec 8 :=
  IntOp.ori (IntOp.andi (Ideal.fptosi 8 c0) 15#8) (IntOp.shli .vector (IntOp.andi (Ideal.fptosi 8 c1) 15#8) 4#8)

/-- The pattern 0x41800000 is sixteen. -/
theorem ofBits_16 : Ideal.ofBits .f32 0x41800000#32 = ((16 : ℝ) : EReal) := by
  simp [Ideal.ofBits, Ideal.ieee]
  norm_cast
  norm_num

/-- A code is an integer between -7 and 7, whatever the number and the scale (infinite ones too). -/
theorem code_int (x s : EReal) : ∃ n : ℤ, -7 ≤ n ∧ n ≤ 7 ∧ code x s = ((n : ℝ) : EReal) := by
  have h7 : (7#32).toInt = 7 := by decide
  have hm7 : (4294967289#32).toInt = -7 := by decide
  unfold code
  rw [h7, hm7]
  induction Ideal.div x s using EReal.rec with
  | bot => exact ⟨-7, by omega, by omega, by
      rw [Ideal.liftRound_bot, max_eq_left bot_le, min_eq_right (by exact_mod_cast (by norm_num : (-7 : ℝ) ≤ 7))]⟩
  | top => exact ⟨7, by omega, by omega, by
      rw [Ideal.liftRound_top, max_eq_right le_top, min_eq_left le_top]⟩
  | coe r => exact ⟨min 7 (max (-7) (Ideal.roundHalfEven r)), by omega, by omega, by
      have hmono : Monotone (fun z : ℤ => ((z : ℝ) : EReal)) := fun a b h => by
        show ((a : ℝ) : EReal) ≤ ((b : ℝ) : EReal)
        exact_mod_cast h
      rw [Ideal.liftRound_coe]
      exact ((hmono.map_min (a := 7) (b := max (-7) (Ideal.roundHalfEven r))).trans
        (congrArg _ (hmono.map_max (a := -7) (b := Ideal.roundHalfEven r)))).symm⟩

/-- An integer within a word's range, converted to the word and back, is itself. -/
theorem fptosi_int (w : ℕ) (n : ℤ) (h1 : -(2 ^ (w - 1) : ℕ) ≤ n) (h2 : n ≤ (2 ^ (w - 1) : ℕ) - 1) :
    Ideal.fptosi w ((n : ℝ) : EReal) = BitVec.ofInt w n := by
  unfold Ideal.fptosi
  rw [Ideal.toIntClamped_coe]
  congr 1
  rw [Int.floor_intCast, Int.ceil_intCast, ite_self, min_eq_right h2, max_eq_right h1]

/-- A code stored as an 8-bit integer and read back is the code. -/
theorem sitofp_code (x s : EReal) :
    FloatOps.sitofp (F := Ideal) .f32 (Ideal.fptosi 8 (code x s)) = code x s := by
  obtain ⟨n, h1, h2, h⟩ := code_int x s
  rw [h, fptosi_int 8 n (by norm_num; omega) (by norm_num; omega)]
  show (((BitVec.ofInt 8 n).toInt : ℝ) : EReal) = _
  rw [BitVec.toInt_ofInt_eq_self (by norm_num) (by norm_num; omega) (by norm_num; omega)]

/-- The code of an integer moved to 0 … 15 is that integer so moved. -/
theorem nib_int (n : ℤ) : nib ((n : ℝ) : EReal) = (((if n < 0 then n + 16 else n : ℤ) : ℝ) : EReal) := by
  unfold nib
  rw [ofBits_16]
  have : ((n : ℝ) : EReal) < 0 ↔ n < 0 := by exact_mod_cast Iff.rfl
  by_cases h : n < 0
  · rw [if_pos (this.2 h), if_pos h]; push_cast; rfl
  · rw [if_neg (fun e => h (this.1 e)), if_neg h]

/-- PACKING BY ARITHMETIC IS PACKING BY MASKS: the first code moved to 0 … 15 plus sixteen times the second so moved,
    converted to a 32-bit integer and cut to its low byte, is the byte of the two codes' low four bits. -/
theorem pack_eq (x0 s0 x1 s1 : EReal) :
    BitVec.setWidth 8 (Ideal.fptosi 32 (nib (code x0 s0) + nib (code x1 s1) * ((16 : ℝ) : EReal)))
      = word (code x0 s0) (code x1 s1) := by
  obtain ⟨n, h1, h2, h⟩ := code_int x0 s0
  obtain ⟨k, k1, k2, e⟩ := code_int x1 s1
  rw [h, e, nib_int, nib_int]
  have hs : ((((if n < 0 then n + 16 else n : ℤ) : ℝ) : EReal) + (((if k < 0 then k + 16 else k : ℤ) : ℝ) : EReal) * ((16 : ℝ) : EReal))
      = ((((if n < 0 then n + 16 else n) + (if k < 0 then k + 16 else k) * 16 : ℤ) : ℝ) : EReal) := by
    push_cast; rfl
  unfold word
  rw [hs, fptosi_int 32 _ (by norm_num; split_ifs <;> omega) (by norm_num; split_ifs <;> omega),
    fptosi_int 8 n (by norm_num; omega) (by norm_num; omega), fptosi_int 8 k (by norm_num; omega) (by norm_num; omega)]
  interval_cases n <;> interval_cases k <;> decide

/-- The weight with which lane `x` of a block enters packed lane `j`: 1 for the even lane of its pair, 16 for the odd. -/
theorem pick_eq (x : Fin 128) (j : Fin 64) :
    (Scalar.select (IntOp.cmpi CmpIPredicate.eq (BitVec.ofNat 32 x.val) (IntOp.muli 2#32 (BitVec.ofNat 32 j.val))) (1 : EReal)
      (Scalar.select (IntOp.cmpi CmpIPredicate.eq (BitVec.ofNat 32 x.val) (IntOp.addi (IntOp.muli 2#32 (BitVec.ofNat 32 j.val)) 1#32))
        (Ideal.ofBits .f32 0x41800000#32) 0))
      = if x.val = 2 * j.val then 1 else if x.val = 2 * j.val + 1 then ((16 : ℝ) : EReal) else 0 := by
  have hx := x.isLt
  have hj := j.isLt
  have e1 : IntOp.cmpi CmpIPredicate.eq (BitVec.ofNat 32 x.val) (IntOp.muli 2#32 (BitVec.ofNat 32 j.val))
      = BitVec.ofBool (decide (x.val = 2 * j.val)) := by
    revert x j; decide +kernel
  have e2 : IntOp.cmpi CmpIPredicate.eq (BitVec.ofNat 32 x.val) (IntOp.addi (IntOp.muli 2#32 (BitVec.ofNat 32 j.val)) 1#32)
      = BitVec.ofBool (decide (x.val = 2 * j.val + 1)) := by
    revert x j; decide +kernel
  rw [e1, e2, ofBits_16]
  by_cases h1 : x.val = 2 * j.val
  · simp [h1, Scalar.select]
  · by_cases h2 : x.val = 2 * j.val + 1
    · simp [h2, Scalar.select]
    · simp [h1, h2, Scalar.select]

/-- A sum over the 128 lanes of a block with the weights of packed lane `j` is its even lane plus 16 times its odd lane. -/
theorem sum_pick (a : Fin 128 → EReal) (j : Fin 64) :
    (∑ x : Fin 128, a x * (if x.val = 2 * j.val then 1 else if x.val = 2 * j.val + 1 then ((16 : ℝ) : EReal) else 0))
      = a ⟨2 * j.val, by omega⟩ + a ⟨2 * j.val + 1, by omega⟩ * ((16 : ℝ) : EReal) := by
  have e : ∀ x : Fin 128, a x * (if x.val = 2 * j.val then 1 else if x.val = 2 * j.val + 1 then ((16 : ℝ) : EReal) else 0)
      = (if x = (⟨2 * j.val, by omega⟩ : Fin 128) then a x else 0)
        + (if x = (⟨2 * j.val + 1, by omega⟩ : Fin 128) then a x * ((16 : ℝ) : EReal) else 0) := by
    intro x
    simp only [Fin.ext_iff]
    by_cases h1 : x.val = 2 * j.val
    · simp [h1]
    · by_cases h2 : x.val = 2 * j.val + 1
      · simp [h2]
      · simp [h1, h2]
  rw [Finset.sum_congr rfl fun x _ => e x, Finset.sum_add_distrib, Finset.sum_ite_eq' Finset.univ, Finset.sum_ite_eq' Finset.univ]
  simp

end Cert.Quant

end
-- ==== Proof.Spec.lean ====
/- WHAT THE THREE RESULTS ARE, as functions of two 1024 x 1024 arrays `A` (the product) and `E` (the carried
   error): index by index over `A + E`, each row cut into eight blocks of 128 numbers (`Quant`). Both programs'
   results are shown to be these functions of the same two arrays. -/
module

public import proofs.«01_k».proof.Proof.Quant

@[expose] public section

noncomputable section

namespace Cert.Spec

open Idealize.ShloMosaic Cert.Quant

variable (A E : FVec Ideal ⟨2, ![1024, 1024]⟩ .f32)

/-- Block `b` of row `i` of `A + E`. -/
def row (i : Fin 1024) (b : Fin 8) (k : Fin 128) : EReal :=
  A (ix2 i ⟨b.val * 128 + k.val, by omega⟩) + E (ix2 i ⟨b.val * 128 + k.val, by omega⟩)

/-- The scale of block `b` of row `i`. -/
def scaleAt (i : Fin 1024) (b : Fin 8) : EReal := scale (row A E i b)

/-- The code of element `(i, j)` of `A + E`, at its block's scale. -/
def codeAt (i j : Fin 1024) : EReal :=
  code (A (ix2 i j) + E (ix2 i j)) (scaleAt A E i ⟨j.val / 128, by omega⟩)

/-- What the code of element `(i, j)` leaves out: the error carried to the next step. -/
def errAt (i j : Fin 1024) : EReal :=
  A (ix2 i j) + E (ix2 i j) - codeAt A E i j * scaleAt A E i ⟨j.val / 128, by omega⟩

/-- Byte `(i, p)`: the codes of elements `(i, 2p)` and `(i, 2p + 1)`. -/
def wordAt (i : Fin 1024) (p : Fin 512) : BitVec 8 :=
  word (codeAt A E i ⟨2 * p.val, by omega⟩) (codeAt A E i ⟨2 * p.val + 1, by omega⟩)

/-- The array of bytes. -/
def packed : IVec ⟨2, ![1024, 512]⟩ 8 := fun y => wordAt A E (y 0) (y 1)
/-- The array of scales. -/
def scales : FVec Ideal ⟨2, ![1024, 8]⟩ .f32 := fun y => scaleAt A E (y 0) (y 1)
/-- The array of carried errors. -/
def newErr : FVec Ideal ⟨2, ![1024, 1024]⟩ .f32 := fun y => errAt A E (y 0) (y 1)

end Cert.Spec

end
-- ==== Proof.Block.lean ====
/- ONE BLOCK OF THE KERNEL'S LAST STEP AT AN INDEX. The body takes the 1024 x 1024 arrays in 32 blocks of 256 rows
   and 128 columns, and does the same to each. Here that is read once, for a block of arbitrary rows and columns:
   the scales, the codes, the errors and the packed sums it computes from the loads `P` (of the product `A`) and `Q` (of the
   carried error `E`) are those of `Spec` at the block's place. -/
module

public import proofs.«01_k».proof.Proof.Spec
public import proofs.«01_k».proof.Proof.Gen.KernelIdeal.Skeleton
public import Idealize.ShloMosaic.Lib.Pointwise

@[expose] public section

set_option maxRecDepth 16384

noncomputable section

namespace Cert.KernelIdeal.Block

open Idealize.ShloMosaic Cert.KernelIdeal Cert.KernelIdeal.Gen Cert.Quant Cert.Spec

variable [Cert.KernelIdeal.Facts]

/-- The product of any block of codes with the matrix of weights: lane `j` is the even lane of its pair plus 16 times the odd
    one, each moved to 0 … 15. -/
theorem pick_apply (q : Vec Ideal S256x128 .f32) (i : Fin 256) (j : Fin 64) :
    k0_pay10 (F := Ideal) k0_pay5 q (ix2 i j)
      = nib (q (ix2 i ⟨2 * j.val, by omega⟩)) + nib (q (ix2 i ⟨2 * j.val + 1, by omega⟩)) * ((16 : ℝ) : EReal) := by
  unfold k0_pay10 k0_pay5
  pointwise
  rw [Finset.sum_congr rfl fun x _ => by rw [pick_eq x j]]
  exact sum_pick (fun x => nib (q (ix2 i x))) j

/-- `P` is the block of `A` whose first row is `o` and whose columns are block `b`. -/
def IsBlock (A : Vec Ideal S1024x1024 .f32) (P : Vec Ideal S256x128 .f32) (o : ℕ) (ho : o + 256 ≤ 1024) (b : Fin 8) : Prop :=
  ∀ (i : Fin 256) (k : Fin 128), P (ix2 i k) = A (ix2 ⟨o + i.val, by omega⟩ ⟨b.val * 128 + k.val, by omega⟩)

variable {A E : Vec Ideal S1024x1024 .f32} {P Q : Vec Ideal S256x128 .f32} {o : ℕ} {ho : o + 256 ≤ 1024} {b : Fin 8}

/-- The block's sums. -/
theorem sum_apply (hP : IsBlock A P o ho b) (hQ : IsBlock E Q o ho b) (i : Fin 256) (k : Fin 128) :
    k0_pay6 P Q (ix2 i k) = row A E ⟨o + i.val, by omega⟩ b k := by
  unfold k0_pay6
  pointwise
  rw [hP, hQ]
  rfl

/-- The block's scales. -/
theorem scale_apply (hP : IsBlock A P o ho b) (hQ : IsBlock E Q o ho b) (i : Fin 256) (z : Fin 1) :
    k0_pay7 P Q (ix2 i z) = scaleAt A E ⟨o + i.val, by omega⟩ b := by
  obtain rfl : z = 0 := Subsingleton.elim _ _
  unfold k0_pay7
  pointwise
  have e : (fun k : Fin 128 => FloatOps.absf (k0_pay6 P Q (ix2 i k)))
      = fun k => max (row A E ⟨o + i.val, by omega⟩ b k) (-row A E ⟨o + i.val, by omega⟩ b k) :=
    funext fun k => by rw [sum_apply hP hQ]; rfl
  rw [e]
  rfl

/-- The block's codes. -/
theorem code_apply (hP : IsBlock A P o ho b) (hQ : IsBlock E Q o ho b) (i : Fin 256) (k : Fin 128) :
    k0_pay8 P Q (ix2 i k) = codeAt A E ⟨o + i.val, by omega⟩ ⟨b.val * 128 + k.val, by omega⟩ := by
  unfold k0_pay8
  pointwise
  rw [sum_apply hP hQ, scale_apply hP hQ]
  have hb : (⟨(b.val * 128 + k.val) / 128, by omega⟩ : Fin 8) = b := Fin.ext (by show (b.val * 128 + k.val) / 128 = b.val; omega)
  unfold codeAt code
  rw [hb]
  rfl

/-- The block's errors. -/
theorem err_apply (hP : IsBlock A P o ho b) (hQ : IsBlock E Q o ho b) (i : Fin 256) (k : Fin 128) :
    k0_pay9 P Q (ix2 i k) = errAt A E ⟨o + i.val, by omega⟩ ⟨b.val * 128 + k.val, by omega⟩ := by
  unfold k0_pay9
  pointwise
  rw [sum_apply hP hQ, scale_apply hP hQ, code_apply hP hQ]
  have hb : (⟨(b.val * 128 + k.val) / 128, by omega⟩ : Fin 8) = b := Fin.ext (by show (b.val * 128 + k.val) / 128 = b.val; omega)
  unfold errAt
  rw [hb]
  rfl

/-- The block's packed sums, converted to an integer and cut to a byte, are its bytes. -/
theorem word_apply (hP : IsBlock A P o ho b) (hQ : IsBlock E Q o ho b) (i : Fin 256) (j : Fin 64) :
    BitVec.setWidth 8 (Ideal.fptosi 32 (k0_pay10 (F := Ideal) k0_pay5 (k0_pay8 P Q) (ix2 i j)))
      = wordAt A E ⟨o + i.val, by omega⟩ ⟨b.val * 64 + j.val, by omega⟩ := by
  have e0 : (⟨b.val * 128 + 2 * j.val, by omega⟩ : Fin 1024) = ⟨2 * (b.val * 64 + j.val), by omega⟩ := Fin.ext (by show b.val * 128 + 2 * j.val = 2 * (b.val * 64 + j.val); omega)
  have e1 : (⟨b.val * 128 + (2 * j.val + 1), by omega⟩ : Fin 1024) = ⟨2 * (b.val * 64 + j.val) + 1, by omega⟩ := Fin.ext (by show b.val * 128 + (2 * j.val + 1) = 2 * (b.val * 64 + j.val) + 1; omega)
  have c0 := (code_apply hP hQ i ⟨2 * j.val, by omega⟩).trans (congrArg (codeAt A E ⟨o + i.val, by omega⟩) e0)
  have c1 := (code_apply hP hQ i ⟨2 * j.val + 1, by omega⟩).trans (congrArg (codeAt A E ⟨o + i.val, by omega⟩) e1)
  rw [pick_apply, c0, c1]
  exact pack_eq _ _ _ _

end Cert.KernelIdeal.Block

end
-- ==== Proof.Strip.lean ====
/- THE STORES OF THE KERNEL'S LAST STEP. It stores the errors block by block (32 stores), and the scales and the bytes one strip
   of 256 rows at a time (4 stores each), eight blocks laid side by side. Each store is shown to be a part of the whole
   array of `Spec`, at any block and at any strip. -/
module

public import proofs.«01_k».proof.Proof.Block
public import Idealize.ShloMosaic.Lib.Pipeline.ValueKit

@[expose] public section

set_option maxRecDepth 16384

noncomputable section

namespace Cert.KernelIdeal.Block

open Idealize.ShloMosaic Cert.KernelIdeal Cert.KernelIdeal.Gen Cert.Quant Cert.Spec

/-- Block `b` of strip `r` lies inside the array. -/
theorem inb (r : Fin 4) (b : Fin 8) : ∀ a : Fin 2, (![256 * r.val, 128 * b.val] : Fin 2 → ℕ) a + (![256, 128] : Fin 2 → ℕ) a ≤ S1024x1024.size a := by
  revert r b; decide

/-- Strip `r` of the scales lies inside their array. -/
theorem inb8 (r : Fin 4) : ∀ a : Fin 2, (![256 * r.val, 0] : Fin 2 → ℕ) a + (![256, 8] : Fin 2 → ℕ) a ≤ S1024x8.size a := by
  revert r; decide

/-- Strip `r` of the bytes lies inside their array. -/
theorem inb512 (r : Fin 4) : ∀ a : Fin 2, (![256 * r.val, 0] : Fin 2 → ℕ) a + (![256, 512] : Fin 2 → ℕ) a ≤ S1024x512.size a := by
  revert r; decide

/-- The load of block `b` of strip `r`. -/
abbrev blk (A : Vec Ideal S1024x1024 .f32) (r : Fin 4) (b : Fin 8) : Vec Ideal S256x128 .f32 :=
  View.ld A (Rect.unit (s := S1024x1024) ![256 * r.val, 128 * b.val] ![256, 128] (inb r b))

/-- That load is the block. -/
theorem isBlock_blk (A : Vec Ideal S1024x1024 .f32) (r : Fin 4) (b : Fin 8) :
    IsBlock A (blk A r b) (256 * r.val) (by omega) b := fun i k =>
  View.ld_unit_apply_of A _ _ _ _ _ fun a => match a with
    | ⟨0, _⟩ => rfl
    | ⟨1, _⟩ => by show b.val * 128 + k.val = 128 * b.val + k.val; omega

variable [Cert.KernelIdeal.Facts] (A E : Vec Ideal S1024x1024 .f32)

/-- The stored errors of a block are the errors there. -/
theorem err_piece (r : Fin 4) (b : Fin 8) (x : S256x128.Idx) :
    k0_pay9 (blk A r b) (blk E r b) x
      = newErr A E ((Rect.unit (s := S1024x1024) ![256 * r.val, 128 * b.val] ![256, 128] (inb r b)).emb x) := by
  obtain ⟨i, k, rfl⟩ : ∃ (i : Fin 256) (k : Fin 128), x = ix2 i k := ⟨x 0, x 1, funext fun a => match a with | ⟨0, _⟩ => rfl | ⟨1, _⟩ => rfl⟩
  rw [err_apply (isBlock_blk A r b) (isBlock_blk E r b)]
  refine congr (congrArg (errAt A E) (Fin.ext ?_)) (Fin.ext ?_)
  · exact (Rect.idx_unit_val (s := S1024x1024) ![256 * r.val, 128 * b.val] ![256, 128] (inb r b) (ix2 i k) 0).symm
  · exact (by show b.val * 128 + k.val = 128 * b.val + k.val; omega : b.val * 128 + k.val = 128 * b.val + k.val).trans (Rect.idx_unit_val (s := S1024x1024) ![256 * r.val, 128 * b.val] ![256, 128] (inb r b) (ix2 i k) 1).symm

/-- The stored scales of a strip — the eight blocks' scales side by side — are the scales there. -/
theorem scale_piece (r : Fin 4) (x : S256x8.Idx) :
    k0_pay3 (k0_pay7 (blk A r 0) (blk E r 0)) (k0_pay7 (blk A r 1) (blk E r 1)) (k0_pay7 (blk A r 2) (blk E r 2)) (k0_pay7 (blk A r 3) (blk E r 3))
        (k0_pay7 (blk A r 4) (blk E r 4)) (k0_pay7 (blk A r 5) (blk E r 5)) (k0_pay7 (blk A r 6) (blk E r 6)) (k0_pay7 (blk A r 7) (blk E r 7)) x
      = scales A E ((Rect.unit (s := S1024x8) ![256 * r.val, 0] ![256, 8] (inb8 r)).emb x) := by
  obtain ⟨i, b, rfl⟩ : ∃ (i : Fin 256) (b : Fin 8), x = ix2 i b := ⟨x 0, x 1, funext fun a => match a with | ⟨0, _⟩ => rfl | ⟨1, _⟩ => rfl⟩
  refine (concatenate_ofFn_apply (t := S256x8) (s₁ := S256x1) 1 (fun b : Fin 8 => k0_pay7 (blk A r b) (blk E r b)) concatenates_S256x1_S256x1_S256x1_S256x1_S256x1_S256x1_S256x1_S256x1_S256x8_d1 rfl 1 rfl (ix2 i b) b
    (Nat.div_one _) (ix2 i 0) (Nat.mod_one _).symm fun a ha => ?_).trans ?_
  · match a with
    | ⟨0, _⟩ => rfl
    | ⟨1, _⟩ => exact absurd rfl ha
  · rw [scale_apply (isBlock_blk A r b) (isBlock_blk E r b)]
    refine congr (congrArg (scaleAt A E) (Fin.ext ?_)) (Fin.ext ?_)
    · exact (Rect.idx_unit_val (s := S1024x8) ![256 * r.val, 0] ![256, 8] (inb8 r) (ix2 i b) 0).symm
    · exact (Nat.zero_add _).symm.trans (Rect.idx_unit_val (s := S1024x8) ![256 * r.val, 0] ![256, 8] (inb8 r) (ix2 i b) 1).symm

/-- The stored bytes of a strip — the eight blocks' packed sums side by side, converted — are the bytes there. -/
theorem word_piece (r : Fin 4) (x : S256x512.Idx) :
    k0_pay4 (k0_pay10 k0_pay5 (k0_pay8 (blk A r 0) (blk E r 0))) (k0_pay10 k0_pay5 (k0_pay8 (blk A r 1) (blk E r 1)))
        (k0_pay10 k0_pay5 (k0_pay8 (blk A r 2) (blk E r 2))) (k0_pay10 k0_pay5 (k0_pay8 (blk A r 3) (blk E r 3)))
        (k0_pay10 k0_pay5 (k0_pay8 (blk A r 4) (blk E r 4))) (k0_pay10 k0_pay5 (k0_pay8 (blk A r 5) (blk E r 5)))
        (k0_pay10 k0_pay5 (k0_pay8 (blk A r 6) (blk E r 6))) (k0_pay10 k0_pay5 (k0_pay8 (blk A r 7) (blk E r 7))) x
      = packed A E ((Rect.unit (s := S1024x512) ![256 * r.val, 0] ![256, 512] (inb512 r)).emb x) := by
  obtain ⟨i, p, rfl⟩ : ∃ (i : Fin 256) (p : Fin 512), x = ix2 i p := ⟨x 0, x 1, funext fun a => match a with | ⟨0, _⟩ => rfl | ⟨1, _⟩ => rfl⟩
  have e := concatenate_ofFn_apply (t := S256x512) (s₁ := S256x64) 1
    (fun b : Fin 8 => k0_pay10 (F := Ideal) k0_pay5 (k0_pay8 (blk A r b) (blk E r b)))
    concatenates_S256x64_S256x64_S256x64_S256x64_S256x64_S256x64_S256x64_S256x64_S256x512_d1 rfl 64 rfl (ix2 i p) ⟨p.val / 64, by omega⟩
    rfl (ix2 i ⟨p.val % 64, by omega⟩) rfl (fun a ha => match a with | ⟨0, _⟩ => rfl | ⟨1, _⟩ => absurd rfl ha)
  refine (congrArg (fun z => BitVec.setWidth 8 (Ideal.fptosi 32 z)) e).trans ?_
  rw [word_apply (isBlock_blk A r _) (isBlock_blk E r _)]
  refine congr (congrArg (wordAt A E) (Fin.ext ?_)) (Fin.ext ?_)
  · exact (Rect.idx_unit_val (s := S1024x512) ![256 * r.val, 0] ![256, 512] (inb512 r) (ix2 i p) 0).symm
  · exact (by show p.val / 64 * 64 + p.val % 64 = 0 + p.val; omega : p.val / 64 * 64 + p.val % 64 = 0 + p.val).trans (Rect.idx_unit_val (s := S1024x512) ![256 * r.val, 0] ![256, 512] (inb512 r) (ix2 i p) 1).symm

end Cert.KernelIdeal.Block

end
-- ==== Proof.Last.lean ====
/- WHAT THE KERNEL'S GRID POINTS LEAVE: the scratch accumulator after each point, and the three outputs after the last one. -/
module

public import proofs.«01_k».proof.Proof.Gen.KernelIdeal.Value
public import proofs.«01_k».proof.Proof.Strip
public import Idealize.ShloMosaic.Lib.Pipeline.ValueKit
public import Idealize.ShloMosaic.Lib.Pipeline.ReadBack

@[expose] public section

set_option maxRecDepth 16384

noncomputable section

namespace Cert.KernelIdeal.Last

open Idealize.ShloMosaic Cert.KernelIdeal Cert.KernelIdeal.Gen Cert.KernelIdeal.Block Cert.Quant Cert.Spec
open Idealize.ShloMosaic.Pipeline

variable (m : (ℓ : Loc nD τ sig) → Buf (Elt Ideal) ℓ) (c : Dev nD)

/-- The scratch after the first point: zero plus the point's product. -/
theorem acc_first (t : Fin cfg0.N) (h0 : t.val % 36 = 0) (h1 : ¬t.val % 36 = 35) :
    (outsAt0 m c t.val t.isLt).2.2.2 = k0_pay2 k0_pay1 (iblk m c 0 t) (iblk m c 1 t) := by
  rw [outsAt0_A m c t h0 h1]
  dsimp only [sout0_A_0]
  frame_out

/-- The scratch after a middle point: what it held plus the point's product. -/
theorem acc_mid (t : Fin cfg0.N) (h0 : ¬t.val % 36 = 0) (h1 : ¬t.val % 36 = 35) :
    (outsAt0 m c t.val t.isLt).2.2.2
      = k0_pay2 (outsAt0 m c (t.val - 1) (by omega)).2.2.2 (iblk m c 0 t) (iblk m c 1 t) := by
  rw [outsAt0_B m c t h0 h1]
  dsimp only [sout0_B_0]
  frame_out
  simp (disch := decide) only [↓ View.readCov_skip, ↓ View.readCov_cons_toLoadRect, ↓ View.readCov_fill, read_unread_whole]

/-- The scratch after the last point: the same step. -/
theorem acc_last (t : Fin cfg0.N) (h0 : ¬t.val % 36 = 0) (h1 : t.val % 36 = 35) :
    (outsAt0 m c t.val t.isLt).2.2.2
      = k0_pay2 (outsAt0 m c (t.val - 1) (by omega)).2.2.2 (iblk m c 0 t) (iblk m c 1 t) := by
  rw [outsAt0_C m c t h0 h1]
  dsimp only [sout0_C_0]
  frame_out
  simp (disch := decide) only [↓ View.readCov_skip, ↓ View.readCov_cons_toLoadRect, ↓ View.readCov_fill, read_unread_whole]

/-- The errors the last point leaves, of the accumulated product `A` and the carried error `E`. -/
theorem err_last (t : Fin cfg0.N) (h0 : ¬t.val % 36 = 0) (h1 : t.val % 36 = 35) :
    (outsAt0 m c t.val t.isLt).2.2.1 = newErr (outsAt0 m c t.val t.isLt).2.2.2 (iblk m c 2 t) := by
  rw [acc_last m c t h0 h1, outsAt0_C m c t h0 h1]
  dsimp only [out0_C_5]
  frame_out
  simp (disch := decide) only [↓ View.readCov_skip, ↓ View.readCov_cons_toLoadRect, ↓ View.readCov_fill, read_unread_whole]
  have e := err_piece (k0_pay2 (outsAt0 m c (t.val - 1) (by omega)).2.2.2 (iblk m c 0 t) (iblk m c 1 t)) (iblk m c 2 t)
  funext y
  refine View.canon_apply_of_pieces _ _ (View.PiecesOf.mem ?_) y (View.cover_of_tiledL (s := S1024x1024) _ S256x128.size (by sl_kernel_rfl) y)
  exact ⟨e 3 7, e 3 6, e 3 5, e 3 4, e 3 3, e 3 2, e 3 1, e 3 0,
      e 2 7, e 2 6, e 2 5, e 2 4, e 2 3, e 2 2, e 2 1, e 2 0,
      e 1 7, e 1 6, e 1 5, e 1 4, e 1 3, e 1 2, e 1 1, e 1 0,
      e 0 7, e 0 6, e 0 5, e 0 4, e 0 3, e 0 2, e 0 1, e 0 0, trivial⟩

/-- The scales the last point leaves. -/
theorem scale_last (t : Fin cfg0.N) (h0 : ¬t.val % 36 = 0) (h1 : t.val % 36 = 35) :
    (outsAt0 m c t.val t.isLt).2.1 = scales (outsAt0 m c t.val t.isLt).2.2.2 (iblk m c 2 t) := by
  rw [acc_last m c t h0 h1, outsAt0_C m c t h0 h1]
  dsimp only [out0_C_4]
  frame_out
  simp (disch := decide) only [↓ View.readCov_skip, ↓ View.readCov_cons_toLoadRect, ↓ View.readCov_fill, read_unread_whole]
  have e := scale_piece (k0_pay2 (outsAt0 m c (t.val - 1) (by omega)).2.2.2 (iblk m c 0 t) (iblk m c 1 t)) (iblk m c 2 t)
  funext y
  refine View.canon_apply_of_pieces _ _ (View.PiecesOf.mem ?_) y (View.cover_of_tiledL (s := S1024x8) _ S256x8.size (by sl_kernel_rfl) y)
  exact ⟨e 3, e 2, e 1, e 0, trivial⟩

/-- The bytes the last point leaves. -/
theorem word_last (t : Fin cfg0.N) (h0 : ¬t.val % 36 = 0) (h1 : t.val % 36 = 35) :
    (outsAt0 m c t.val t.isLt).1 = packed (outsAt0 m c t.val t.isLt).2.2.2 (iblk m c 2 t) := by
  rw [acc_last m c t h0 h1, outsAt0_C m c t h0 h1]
  dsimp only [out0_C_3]
  frame_out
  simp (disch := decide) only [↓ View.readCov_skip, ↓ View.readCov_cons_toLoadRect, ↓ View.readCov_fill, read_unread_whole]
  have e := word_piece (k0_pay2 (outsAt0 m c (t.val - 1) (by omega)).2.2.2 (iblk m c 0 t) (iblk m c 1 t)) (iblk m c 2 t)
  funext y
  refine View.canon_apply_of_pieces _ _ (View.PiecesOf.mem ?_) y (View.cover_of_tiledL (s := S1024x512) _ S256x512.size (by sl_kernel_rfl) y)
  exact ⟨e 3, e 2, e 1, e 0, trivial⟩

end Cert.KernelIdeal.Last

end
-- ==== Proof.Dot.lean ====
/- THE PRODUCT the gradient is: `xᵀ dy` over all tokens, one sum per element. -/
module

public import Idealize.ShloMosaic.Lib.Pointwise
public import Idealize.ShloMosaic.PureOps.Ideal

@[expose] public section

noncomputable section

namespace Cert.Spec

open Idealize.ShloMosaic

/-- The gradient: element (i, j) is the sum over the 73728 tokens of `x[token, i] · dy[token, j]`. -/
def grad (X Y : FVec Ideal ⟨2, ![73728, 1024]⟩ .bf16) : FVec Ideal ⟨2, ![1024, 1024]⟩ .f32 := fun y =>
  ∑ l : Fin 73728, X (ix2 l (y 0)) * Y (ix2 l (y 1))

end Cert.Spec

end
-- ==== Proof.Total.lean ====
/- THE ACCUMULATOR: after the last grid point the scratch holds the whole product, the 36 blocks of 2048 tokens summed in
   order from zero. -/
module

public import proofs.«01_k».proof.Proof.Last
public import proofs.«01_k».proof.Proof.Dot

@[expose] public section

set_option maxRecDepth 16384

noncomputable section

namespace Cert.KernelIdeal.Total

open Idealize.ShloMosaic Idealize.ShloMosaic.TcCoe Cert.KernelIdeal Cert.KernelIdeal.Gen Cert.KernelIdeal.Last Cert.Spec
open Idealize.ShloMosaic.Pipeline

variable (m : (ℓ : Loc nD τ sig) → Buf (Elt Ideal) ℓ) (c : Dev nD)

/-- The activations. -/
abbrev X : Vec Ideal S73728x1024 .bf16 := m ((c : Thread nD τ).loc main_arg0)

/-- The output gradients. -/
abbrev Y : Vec Ideal S73728x1024 .bf16 := m ((c : Thread nD τ).loc main_arg1)

/-- The carried error. -/
abbrev E : Vec Ideal S1024x1024 .f32 := m ((c : Thread nD τ).loc main_arg2)

/-- The activations a point reads. -/
abbrev xblk (t : Fin cfg0.N) : Vec Ideal S2048x1024 .bf16 := iblk m c 0 t

/-- The output gradients a point reads. -/
abbrev yblk (t : Fin cfg0.N) : Vec Ideal S2048x1024 .bf16 := iblk m c 1 t

/-- One accumulation step at an element: what was there plus the block's sum. -/
theorem step_apply [Facts] (a : Vec Ideal S1024x1024 .f32) (x y : Vec Ideal S2048x1024 .bf16) (i j : Fin 1024) :
    k0_pay2 a x y (ix2 i j) = a (ix2 i j) + ∑ k : Fin 2048, x (ix2 k i) * y (ix2 k j) := by
  unfold k0_pay2
  pointwise

/-- The reset value is zero. -/
theorem zero_apply [Facts] (i j : Fin 1024) : k0_pay1 (F := Ideal) (ix2 i j) = 0 := by
  unfold k0_pay1
  pointwise

/-- Window 0's block index at a point is the point. -/
theorem idx0 : ∀ t : Fin cfg0.N, win0_0.index t 0 = t.val ∧ win0_0.index t 1 = 0 :=
  (by decide +kernel : ∀ t : Fin grid0.N, win0_0.index t 0 = t.val ∧ win0_0.index t 1 = 0)

/-- Window 1's block index at a point is the point. -/
theorem idx1 : ∀ t : Fin cfg0.N, win0_1.index t 0 = t.val ∧ win0_1.index t 1 = 0 :=
  (by decide +kernel : ∀ t : Fin grid0.N, win0_1.index t 0 = t.val ∧ win0_1.index t 1 = 0)

/-- Window 2's block is the whole array at every point. -/
theorem idx2 : ∀ t : Fin cfg0.N, win0_2.index t 0 = 0 ∧ win0_2.index t 1 = 0 :=
  (by decide +kernel : ∀ t : Fin grid0.N, win0_2.index t 0 = 0 ∧ win0_2.index t 1 = 0)

/-- The block of `x` at a point: its 2048 tokens. -/
theorem iblk0 (t : Fin cfg0.N) (k : Fin 2048) (i : Fin 1024) (hl : t.val * 2048 + k.val < 73728) :
    xblk m c t (ix2 k i) = X m c (ix2 ⟨t.val * 2048 + k.val, hl⟩ i) := by
  blk_ext [iblk, V, (idx0 t).1, (idx0 t).2]

/-- The block of `dy` at a point: its 2048 tokens. -/
theorem iblk1 (t : Fin cfg0.N) (k : Fin 2048) (i : Fin 1024) (hl : t.val * 2048 + k.val < 73728) :
    yblk m c t (ix2 k i) = Y m c (ix2 ⟨t.val * 2048 + k.val, hl⟩ i) := by
  blk_ext [iblk, V, (idx1 t).1, (idx1 t).2]

/-- The block of the carried error is the whole array. -/
theorem iblk2 (t : Fin cfg0.N) : iblk m c 2 t = E m c := by
  funext y
  blk_ext [iblk, V, (idx2 t).1, (idx2 t).2]

/-- After the last point the scratch holds the gradient of the whole batch. -/
theorem acc_total (t : Fin cfg0.N) (ht : t.val = 35) :
    (outsAt0 m c t.val t.isLt).2.2.2
      = grad (X m c) (Y m c) := by
  have hN : cfg0.N = 36 := N_0
  funext y
  obtain ⟨i, j, rfl⟩ : ∃ (i j : Fin 1024), y = ix2 i j := ⟨y 0, y 1, funext fun a => match a with | ⟨0, _⟩ => rfl | ⟨1, _⟩ => rfl⟩
  have key := Pipeline.eq_sum_fin_of_reset_step_apply_last (N := cfg0.N)
    (fun n h (p : Fin 1024 × Fin 1024) => ((outsAt0 m c n h).2.2.2 (ix2 p.1 p.2) : EReal)) 36 (fun _ => (0 : EReal))
    (fun t p => ∑ k : Fin 2048, xblk m c t (ix2 k p.1) * yblk m c t (ix2 k p.2))
    (fun t h0 p => by
      show (outsAt0 m c t.val t.isLt).2.2.2 (ix2 p.1 p.2) = _
      rw [acc_first m c t h0 (by omega), step_apply, zero_apply])
    (fun t h0 p => by
      show (outsAt0 m c t.val t.isLt).2.2.2 (ix2 p.1 p.2) = _
      by_cases h1 : t.val % 36 = 35
      · rw [acc_last m c t h0 h1, step_apply]
      · rw [acc_mid m c t h0 h1, step_apply])
    (by omega) t (by omega) (i, j)
  refine key.trans ((zero_add _).trans ?_)
  refine (Fin.sum_points_lanes_congr (A := 1) (L := 73728) 36
    (g := fun _ l => X m c (ix2 l i) * Y m c (ix2 l j))
    (fun t k _ hl => ?_) (by omega) (by norm_num)).trans ?_
  · have e : t.val % 36 = t.val := Nat.mod_eq_of_lt (by omega)
    have hl' : t.val * 2048 + k.val < 73728 := by omega
    have e' : (⟨t.val % 36 * 2048 + k.val, hl⟩ : Fin 73728) = ⟨t.val * 2048 + k.val, hl'⟩ := Fin.ext (by show t.val % 36 * 2048 + k.val = _; rw [e])
    show _ = X m c (ix2 ⟨t.val % 36 * 2048 + k.val, hl⟩ i) * Y m c (ix2 ⟨t.val % 36 * 2048 + k.val, hl⟩ j)
    rw [e']
    exact congr (congrArg (fun u v : Ideal .bf16 => u * v) (iblk0 m c t k i hl')) (iblk1 m c t k j hl')
  · exact Fin.sum_univ_one _

end Cert.KernelIdeal.Total

end
-- ==== Proof.KernelRun.lean ====
/- THE KERNEL'S RUN: its three results are the arrays of `Spec` of the gradient and the carried error. -/
module

public import proofs.«01_k».proof.Proof.Total

@[expose] public section

set_option maxRecDepth 16384

noncomputable section

namespace Cert.KernelIdeal.Total

open Idealize.ShloMosaic Idealize.ShloMosaic.TcCoe Idealize.SL.Sem
open Cert.KernelIdeal Cert.KernelIdeal.Gen Cert.KernelIdeal.Value Cert.KernelIdeal.Last Cert.Spec

variable (m : (ℓ : Loc nD τ sig) → Buf (Elt Ideal) ℓ) (ρ : Dev nD → PrngReg) (c : Dev nD)

/-- The gradient of the kernel's arguments. -/
abbrev G : Vec Ideal S1024x1024 .f32 := grad (X m c) (Y m c)

/-- The last grid point. -/
abbrev last : Fin cfg0.N := ⟨35, lt_of_lt_of_eq (by decide) N_0.symm⟩

/-- The bytes' result array. -/
theorem result3 : G3 m c = packed (G m c) (E m c) := by
  rw [G3_last, ← outsAt0_sweep m c 35 last.isLt, word_last m c last (by decide) (by decide), acc_total m c last rfl, iblk2]

/-- The scales' result array. -/
theorem result4 : G4 m c = scales (G m c) (E m c) := by
  rw [G4_last, ← outsAt0_sweep m c 35 last.isLt, scale_last m c last (by decide) (by decide), acc_total m c last rfl, iblk2]

/-- The errors' result array. -/
theorem result5 : G5 m c = newErr (G m c) (E m c) := by
  rw [G5_last, ← outsAt0_sweep m c 35 last.isLt, err_last m c last (by decide) (by decide), acc_total m c last rfl, iblk2]

/-- The kernel runs; its results are the packed bytes, the scales and the errors of the gradient and the carried error; its
    arguments are unchanged. -/
theorem run : θ_run defs (onTc (τ := τ) (main (F := Ideal))) ⟨m, fun _ => 0, ρ⟩ fun r => ∀ c : Dev nD,
      r.2.mem ((c : Thread nD τ).loc main_v0_0) = packed (G m c) (E m c)
      ∧ r.2.mem ((c : Thread nD τ).loc main_v0_1) = scales (G m c) (E m c)
      ∧ r.2.mem ((c : Thread nD τ).loc main_v0_2) = newErr (G m c) (E m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (result3 m c), (h c).2.1.trans (result4 m c), (h c).2.2.1.trans (result5 m c),
      (h c).2.2.2⟩) (Value.run m ρ)

end Cert.KernelIdeal.Total

end
-- ==== Proof.RefBody.lean ====
/- THE REFERENCE'S BODY AT AN INDEX: the three arrays it stores, as computed from the two it loads, are the arrays of
   scales, errors and bytes of `Spec`. -/
module

public import proofs.«01_k».proof.Proof.Spec
public import proofs.«01_k».proof.Proof.Gen.ReferenceIdeal.Skeleton
public import Idealize.ShloMosaic.Lib.Pointwise

@[expose] public section

set_option maxRecDepth 16384

noncomputable section

namespace Cert.ReferenceIdeal.Body

open Idealize.ShloMosaic Cert.ReferenceIdeal Cert.ReferenceIdeal.Gen Cert.Quant Cert.Spec

variable [Cert.ReferenceIdeal.Facts]
variable (A E : Vec Ideal S1024x1024 .f32)

/-- The stored scales are the scales. -/
theorem scale_apply (i : Fin 1024) (b : Fin 8) : k0_pay3 A E (ix2 i b) = scaleAt A E i b := by
  unfold k0_pay3 k0_pay2
  pointwise
  rfl

/-- The integer codes are the codes, converted. -/
theorem code_apply (i : Fin 1024) (b : Fin 8) (k : Fin 128) :
    k0_pay4 A E (ix3 i b k) = Ideal.fptosi 8 (codeAt A E i ⟨b.val * 128 + k.val, by omega⟩) := by
  unfold k0_pay4 k0_pay2
  pointwise
  rw [scale_apply]
  have hb : (⟨(b.val * 128 + k.val) / 128, by omega⟩ : Fin 8) = b := Fin.ext (by show (b.val * 128 + k.val) / 128 = b.val; omega)
  unfold codeAt code
  rw [hb]
  rfl

/-- The same at a place of the row. -/
theorem code_apply' (i : Fin 1024) (j : Fin 1024) (b : Fin 8) (k : Fin 128) (h : b.val * 128 + k.val = j.val) :
    k0_pay4 A E (ix3 i b k) = Ideal.fptosi 8 (codeAt A E i j) := by
  rw [code_apply]
  exact congrArg (fun j => Ideal.fptosi 8 (codeAt A E i j)) (Fin.ext h)

/-- The stored errors are the errors. -/
theorem err_apply (i j : Fin 1024) : k0_pay5 A E (ix2 i j) = errAt A E i j := by
  unfold k0_pay5 k0_pay2
  pointwise
  rw [code_apply' A E i j _ _ (by show j.val / 128 * 128 + j.val % 128 = j.val; omega), scale_apply]
  unfold errAt codeAt
  rw [sitofp_code]

/-- The stored bytes are the bytes. -/
theorem word_apply (i : Fin 1024) (p : Fin 512) : k0_pay1 (k0_pay7 A E) (k0_pay8 A E) (ix2 i p) = wordAt A E i p := by
  unfold k0_pay1 k0_pay7 k0_pay8 k0_pay6
  pointwise
  rw [code_apply' A E i ⟨2 * p.val, by omega⟩ _ _ (by show p.val / 64 * 128 + p.val % 64 * 2 = 2 * p.val; omega),
    code_apply' A E i ⟨2 * p.val + 1, by omega⟩ _ _ (by show p.val / 64 * 128 + (p.val % 64 * 2 + 1) = 2 * p.val + 1; omega)]
  rfl

end Cert.ReferenceIdeal.Body

end
-- ==== Proof.RefRun.lean ====
/- THE REFERENCE'S RUN: its one host operation makes the gradient, its one call with no grid quantises and packs it; its three
   results are the arrays of `Spec` of the gradient and the carried error. -/
module

public import proofs.«01_k».proof.Proof.RefBody
public import proofs.«01_k».proof.Proof.Dot
public import proofs.«01_k».proof.Proof.Gen.ReferenceIdeal.Frame
public import Idealize.ShloMosaic.Lib.Pipeline.ValueKit
public import Idealize.ShloMosaic.Lib.StableHlo.Run
public import Idealize.ShloMosaic.Lib.Tactic

@[expose] public section

set_option maxRecDepth 16384

noncomputable section

namespace Cert.ReferenceIdeal.Run

open Idealize.ShloMosaic Idealize.ShloMosaic.TcCoe Idealize.SL.Sem
open Idealize.ShloMosaic.Pipeline (Dat)
open Cert.ReferenceIdeal Cert.ReferenceIdeal.Gen Cert.ReferenceIdeal.Body Cert.Spec

variable (m : (ℓ : Loc nD τ sig) → Buf (Elt Ideal) ℓ) (ρ : Dev nD → PrngReg) (c : Dev nD)

/-- The activations. -/
abbrev X : Vec Ideal S73728x1024 .bf16 := m ((c : Thread nD τ).loc main_arg0)

/-- The output gradients. -/
abbrev Y : Vec Ideal S73728x1024 .bf16 := m ((c : Thread nD τ).loc main_arg1)

/-- The gradient of the reference's arguments. -/
abbrev G : Vec Ideal S1024x1024 .f32 := grad (X m c) (Y m c)

/-- The carried error. -/
abbrev E : Vec Ideal S1024x1024 .f32 := m ((c : Thread nD τ).loc main_arg2)

theorem hz : (![0, 0] : Fin 2 → Nat) = fun _ => 0 := funext fun a => by fin_cases a <;> rfl

/-- The host operation leaves the gradient. -/
theorem V_v0 : V m c main_v0 = G m c := by
  have e : V m c main_v0 = Host.dotGeneral (F := Ideal) (φ₁ := .bf16) (φ₂ := .bf16) dot_S73728x1024_S73728x1024_S1024x1024_0_0_1_1_n_n none
      (X m c) (Y m c) := by
    show StableHlo.after hostOps0 (fun b => m (c, b)) main_v0 = _
    after_results
  rw [e]
  funext y
  obtain ⟨i, j, rfl⟩ : ∃ (i j : Fin 1024), y = ix2 i j := ⟨y 0, y 1, funext fun a => match a with | ⟨0, _⟩ => rfl | ⟨1, _⟩ => rfl⟩
  pointwise
  rfl

/-- The call's first operand, whole, is the gradient. -/
theorem iblk0 (t : Fin cfg0.N) : iblk m c 0 t = G m c := by
  have hz' : (fun a => win0_0.index t a * main_v0.ty.shape.size a) = fun _ => 0 := by
    revert t; exact (by decide +kernel : ∀ t : Fin grid0.N, (fun a => win0_0.index t a * main_v0.ty.shape.size a) = fun _ => 0)
  rw [← V_v0 m c]
  exact Memref.read_access_unit_zero (Elt Ideal) main_v0 hz' (fun a => by rw [congrFun hz' a]; simp) (V m c main_v0)

/-- The call's second operand, whole, is the carried error. -/
theorem iblk1 (t : Fin cfg0.N) : iblk m c 1 t = E m c := by
  have hz' : (fun a => win0_1.index t a * main_arg2.ty.shape.size a) = fun _ => 0 := by
    revert t; exact (by decide +kernel : ∀ t : Fin grid0.N, (fun a => win0_1.index t a * main_arg2.ty.shape.size a) = fun _ => 0)
  refine (Memref.read_access_unit_zero (Elt Ideal) main_arg2 hz' (fun a => by rw [congrFun hz' a]; simp) (V m c main_arg2)).trans ?_
  exact V_main_arg2 m c

/-- What the body leaves in the errors' buffer. -/
theorem out4 (A B : Vec Ideal S1024x1024 .f32) : out0_4 A B = newErr A B := by
  unfold out0_4
  rw [View.canon_unit_zero hz]
  simp only [View.ld_unit_zero (S := S1024x1024) hz]
  funext y
  obtain ⟨i, j, rfl⟩ : ∃ (i j : Fin 1024), y = ix2 i j := ⟨y 0, y 1, funext fun a => match a with | ⟨0, _⟩ => rfl | ⟨1, _⟩ => rfl⟩
  exact err_apply A B i j

/-- What the body leaves in the scales' buffer. -/
theorem out3 (A B : Vec Ideal S1024x1024 .f32) : out0_3 A B = scales A B := by
  unfold out0_3
  rw [View.canon_unit_zero hz]
  simp only [View.ld_unit_zero (S := S1024x1024) hz]
  funext y
  obtain ⟨i, j, rfl⟩ : ∃ (i : Fin 1024) (j : Fin 8), y = ix2 i j := ⟨y 0, y 1, funext fun a => match a with | ⟨0, _⟩ => rfl | ⟨1, _⟩ => rfl⟩
  exact scale_apply A B i j

/-- What the body leaves in the bytes' buffer. -/
theorem out2 (A B : Vec Ideal S1024x1024 .f32) : out0_2 A B = packed A B := by
  unfold out0_2
  rw [View.canon_unit_zero hz]
  simp only [View.ld_unit_zero (S := S1024x1024) hz]
  funext y
  obtain ⟨i, j, rfl⟩ : ∃ (i : Fin 1024) (j : Fin 512), y = ix2 i j := ⟨y 0, y 1, funext fun a => match a with | ⟨0, _⟩ => rfl | ⟨1, _⟩ => rfl⟩
  exact word_apply A B i j

/-- The bytes' result array ends as the packed bytes. -/
theorem final2 : (dats m 0 c).arrAt 2 cfg0.N = packed (G m c) (E m c) := by
  refine (dats m 0 c).arrAt_eq_of_after_last 2 t0_0 (by decide +kernel) _ fun j => ?_
  show (dats m 0 c).after 2 t0_0 j = _
  rw [after0_2, iblk0, iblk1, out2]
  rfl

/-- The scales' result array ends as the scales. -/
theorem final3 : (dats m 0 c).arrAt 3 cfg0.N = scales (G m c) (E m c) := by
  refine (dats m 0 c).arrAt_eq_of_after_last 3 t0_0 (by decide +kernel) _ fun j => ?_
  show (dats m 0 c).after 3 t0_0 j = _
  rw [after0_3, iblk0, iblk1, out3]
  rfl

/-- The errors' result array ends as the new errors. -/
theorem final4 : (dats m 0 c).arrAt 4 cfg0.N = newErr (G m c) (E m c) := by
  refine (dats m 0 c).arrAt_eq_of_after_last 4 t0_0 (by decide +kernel) _ fun j => ?_
  show (dats m 0 c).after 4 t0_0 j = _
  rw [after0_4, iblk0, iblk1, out4]
  rfl

/-- The reference runs; its results are the packed bytes, the scales and the errors of the gradient and the carried error; its
    arguments are unchanged. -/
theorem run : θ_run defs (onTc (τ := τ) (main (F := Ideal))) ⟨m, fun _ => 0, ρ⟩ fun r => ∀ c : Dev nD,
      r.2.mem ((c : Thread nD τ).loc main_v1_0) = packed (G m c) (E m c)
      ∧ r.2.mem ((c : Thread nD τ).loc main_v1_1) = scales (G m c) (E m c)
      ∧ r.2.mem ((c : Thread nD τ).loc main_v1_2) = newErr (G m c) (E m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1 2).trans (final2 m c), ((h c).1 3).trans (final3 m c), ((h c).1 4).trans (final4 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 1).trans (((dats m 0 c).arrAt_in 1 rfl _).trans ((A_eq m c 1).trans (V_main_arg2 m c)))⟩)
    (run_main m ρ)

end Cert.ReferenceIdeal.Run

end
-- ==== Proof.Algebraic.lean ====
/- THE VALUE CLAIM: from memories agreeing on the arguments, the kernel and the reference end with equal results. -/
module

public import proofs.«01_k».proof.Defs
public import proofs.«01_k».proof.Proof.KernelRun
public import proofs.«01_k».proof.Proof.RefRun

@[expose] public section

noncomputable section

namespace Cert.Proof

open Idealize.ShloMosaic Idealize.SL.Sem

/-- Both runs end at the same three arrays: the packed bytes, the scales and the errors of `xᵀ dy` and the carried error. -/
theorem algebraic : Cert.algebraic_KernelIdeal_ReferenceIdeal := fun m g m' g' _ agree => by
  refine ⟨fun c => Cert.Spec.packed (Cert.KernelIdeal.Total.G m c) (Cert.KernelIdeal.Total.E m c),
    fun c => Cert.Spec.scales (Cert.KernelIdeal.Total.G m c) (Cert.KernelIdeal.Total.E m c),
    fun c => Cert.Spec.newErr (Cert.KernelIdeal.Total.G m c) (Cert.KernelIdeal.Total.E m c),
    Cert.KernelIdeal.Total.run m g,
    (θ_run _ _ _).mono (fun r h c => ?_) (Cert.ReferenceIdeal.Run.run m' g')⟩
  have hx : Cert.ReferenceIdeal.Run.X m' c = Cert.KernelIdeal.Total.X m c := (agree c).1
  have hy : Cert.ReferenceIdeal.Run.Y m' c = Cert.KernelIdeal.Total.Y m c := (agree c).2.1
  have he : Cert.ReferenceIdeal.Run.E m' c = Cert.KernelIdeal.Total.E m c := (agree c).2.2
  have hg : Cert.ReferenceIdeal.Run.G m' c = Cert.KernelIdeal.Total.G m c := congrArg₂ Cert.Spec.grad hx hy
  obtain ⟨h0, h1, h2, hk⟩ := h c
  exact ⟨h0.trans (congrArg₂ Cert.Spec.packed hg he), h1.trans (congr (congrArg Cert.Spec.scales hg) he),
    h2.trans (congrArg₂ Cert.Spec.newErr hg he), hk⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
